-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1024x3x224x224 : Shape := ⟨4, ![1024, 3, 224, 224]⟩
abbrev S64x150528 : Shape := ⟨2, ![64, 150528]⟩
abbrev S64 : Shape := ⟨1, ![64]⟩
abbrev S3x224x224x1024 : Shape := ⟨4, ![3, 224, 224, 1024]⟩
abbrev S150528x1024 : Shape := ⟨2, ![150528, 1024]⟩
abbrev S64x1 : Shape := ⟨2, ![64, 1]⟩
abbrev S1x1024 : Shape := ⟨2, ![1, 1024]⟩
abbrev S1536x1024 : Shape := ⟨2, ![1536, 1024]⟩
abbrev S64x1536 : Shape := ⟨2, ![64, 1536]⟩
abbrev S64x1024 : Shape := ⟨2, ![64, 1024]⟩
abbrev S1024 : Shape := ⟨1, ![1024]⟩

abbrev nBuf : Space → Nat
  | .hbm => 8
  | .vmem => 7
  | .smem => 0
  | _ => 0

abbrev bufTy : (tb : Table) → Fin (tcTables nBuf tb) → BufTy
  | .hbm, ⟨0, _⟩ => ⟨S1024x3x224x224, .f32⟩
  | .hbm, ⟨1, _⟩ => ⟨S64x150528, .f32⟩
  | .hbm, ⟨2, _⟩ => ⟨S64, .f32⟩
  | .hbm, ⟨3, _⟩ => ⟨S3x224x224x1024, .f32⟩
  | .hbm, ⟨4, _⟩ => ⟨S150528x1024, .f32⟩
  | .hbm, ⟨5, _⟩ => ⟨S64x1, .f32⟩
  | .hbm, ⟨6, _⟩ => ⟨S1x1024, .i32⟩
  | .hbm, ⟨7, _⟩ => ⟨S1024, .i32⟩
  | .local _ .vmem, ⟨0, _⟩ => ⟨S1536x1024, .f32⟩
  | .local _ .vmem, ⟨1, _⟩ => ⟨S1536x1024, .f32⟩
  | .local _ .vmem, ⟨2, _⟩ => ⟨S64x1536, .f32⟩
  | .local _ .vmem, ⟨3, _⟩ => ⟨S64x1536, .f32⟩
  | .local _ .vmem, ⟨4, _⟩ => ⟨S64x1, .f32⟩
  | .local _ .vmem, ⟨5, _⟩ => ⟨S1x1024, .i32⟩
  | .local _ .vmem, ⟨6, _⟩ => ⟨S64x1024, .f32⟩
  | _, _ => ⟨S1024x3x224x224, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5

abbrev nD : Nat := 1
abbrev τ : Topo := Topo.v7x

variable {F : FTy → Type} [FloatOps F]

abbrev grid0 : Pipeline.Grid := ⟨1, ![98], ![false]⟩

def k0_cond3 (i : grid0.Coords) : BitVec 1 :=
  let arg0 : BitVec 32 := BitVec.ofNat 32 (i 0).val
  let c97_i32 : BitVec 32 := 97#32
  let v12 : BitVec 1 := Scalar.cmpi .eq arg0 c97_i32
  let v13 : BitVec 32 := Scalar.extui v12
  let c0_i32_6 : BitVec 32 := 0#32
  let v14 : BitVec 1 := Scalar.cmpi .ne v13 c0_i32_6
  v14

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1536x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== ReferenceIdeal.lean ====
abbrev S1024x3x224x224 : Shape := ⟨4, ![1024, 3, 224, 224]⟩
abbrev S64x150528 : Shape := ⟨2, ![64, 150528]⟩
abbrev S64 : Shape := ⟨1, ![64]⟩
abbrev S1024x150528 : Shape := ⟨2, ![1024, 150528]⟩
abbrev S150528x64 : Shape := ⟨2, ![150528, 64]⟩
abbrev S1024x64 : Shape := ⟨2, ![1024, 64]⟩
abbrev S1x64 : Shape := ⟨2, ![1, 64]⟩
abbrev S_ : Shape := ⟨0, ![]⟩
abbrev S1024 : Shape := ⟨1, ![1024]⟩

abbrev nBuf : Space → Nat
  | .hbm => 14
  | .vmem => 0
  | .smem => 0
  | _ => 0

abbrev bufTy : (tb : Table) → Fin (tcTables nBuf tb) → BufTy
  | .hbm, ⟨0, _⟩ => ⟨S1024x3x224x224, .f32⟩
  | .hbm, ⟨1, _⟩ => ⟨S64x150528, .f32⟩
  | .hbm, ⟨2, _⟩ => ⟨S64, .f32⟩
  | .hbm, ⟨3, _⟩ => ⟨S1024x150528, .f32⟩
  | .hbm, ⟨4, _⟩ => ⟨S150528x64, .f32⟩
  | .hbm, ⟨5, _⟩ => ⟨S1024x64, .f32⟩
  | .hbm, ⟨6, _⟩ => ⟨S1x64, .f32⟩
  | .hbm, ⟨7, _⟩ => ⟨S1024x64, .f32⟩
  | .hbm, ⟨8, _⟩ => ⟨S1024x64, .f32⟩
  | .hbm, ⟨9, _⟩ => ⟨S1024x64, .i32⟩
  | .hbm, ⟨10, _⟩ => ⟨S_, .f32⟩
  | .hbm, ⟨11, _⟩ => ⟨S_, .i32⟩
  | .hbm, ⟨12, _⟩ => ⟨S1024, .f32⟩
  | .hbm, ⟨13, _⟩ => ⟨S1024, .i32⟩
  | _, _ => ⟨S1024x3x224x224, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_call0_v0 : Ref sig .tc := ⟨.hbm, 9, rfl⟩
abbrev main_call0_cst : Ref sig .tc := ⟨.hbm, 10, rfl⟩
abbrev main_call0_c : Ref sig .tc := ⟨.hbm, 11, rfl⟩
abbrev main_call0_v1_0 : Ref sig .tc := ⟨.hbm, 12, rfl⟩
abbrev main_v6 : Ref sig .tc := ⟨.hbm, 13, rfl⟩

abbrev nD : Nat := 1
abbrev τ : Topo := Topo.v7x

variable {F : FTy → Type} [FloatOps F]
-- ==== Proof.RefRun.lean ====
/- The reference program, run: its operations in order, and what its result buffer holds at the end. -/
module

public import proofs.«01_k».proof.Defs
public import proofs.«01_k».proof.Proof.Gen.ReferenceIdeal
public import Idealize.ShloMosaic.Lib.StableHlo.Run
public import Idealize.ShloMosaic.Lib.Tactic
public import Idealize.ShloMosaic.Lib.Quiescent

@[expose] public section

set_option maxRecDepth 16384

noncomputable section

namespace Cert.Router

open Idealize.ShloMosaic Idealize.ShloMosaic.TcCoe Idealize.ShloMosaic.StableHlo
open Idealize.SL.Sem
open Cert.ReferenceIdeal Cert.ReferenceIdeal.Gen

variable {F : FTy → Type} [FloatOps F]

/-- The reference's operations: flatten the images, transpose the weights, multiply, add the bias, take the arg-max. -/
abbrev refOps : List (HloOp τ sig (Elt F)) :=
  [ reshape main_arg0 main_v0 rfl shapeCasts_S1024x3x224x224_S1024x150528,
    unary main_arg1 main_v1 (transpose S150528x64 [1, 0] · transposes_S64x150528_S150528x64_1_0),
    binary main_v0 main_v1 main_v2 (fun l r => Host.dotGeneral dot_S1024x150528_S150528x64_S1024x64_1_0_0_1_n_n none l r),
    unary main_arg2 main_v3 (broadcastInDim S1x64 ![1] bcast_S64_S1x64_1),
    unary main_v3 main_v4 (broadcastInDim S1024x64 ![0, 1] bcast_S1x64_S1024x64_0_1),
    binary main_v2 main_v4 main_v5 addf,
    nullary main_call0_v0 (iotaInDim S1024x64 32 1),
    nullary main_call0_cst (constant S_ .f32 0xFF800000#32),
    nullary main_call0_c (constantI S_ 32 0#32),
    quaternary main_v5 main_call0_v0 main_call0_cst main_call0_c main_call0_v1_0
      (fun x y u v j => (Host.argReduce reducer_argmax_f32_i32 x y u v reducesTo_S1024x64_S1024_d1 h_S_ j).1),
    quaternary main_v5 main_call0_v0 main_call0_cst main_call0_c main_v6
      (fun x y u v j => (Host.argReduce reducer_argmax_f32_i32 x y u v reducesTo_S1024x64_S1024_d1 h_S_ j).2) ]

/-- The printed program is these operations run one after the other. -/
theorem refMain_eq (c : Dev nD) : main (F := F) c = seq refOps := rfl

/-- No buffer of the reference is scoped. -/
theorem refBuffers_unscoped : (Finset.univ.filter fun b : Ref sig .tc => b.isScoped) = ∅ := by decide
/-- The reference has no scoped semaphore. -/
theorem refSems_unscoped : (Finset.univ.filter fun sm : SemLoc sig => sm.isScoped .tc) = ∅ := by decide

/-- Every operation touches buffers of its own device only. -/
theorem refOps_sub : (refOps : List (HloOp τ sig (Elt F))).Forall fun op => op.bufs ⊆ tcRefs τ sig :=
  ⟨reshape_bufs_sub .., unary_bufs_sub .., binary_bufs_sub .., unary_bufs_sub .., unary_bufs_sub .., binary_bufs_sub ..,
    nullary_bufs_sub .., nullary_bufs_sub .., nullary_bufs_sub .., quaternary_bufs_sub .., quaternary_bufs_sub ..⟩

/-- The reference's logits: images times transposed weights, plus the bias broadcast over the rows. -/
def refLogits (x : FVec F S1024x3x224x224 .f32) (w : FVec F S64x150528 .f32) (b : FVec F S64 .f32) : FVec F S1024x64 .f32 :=
  addf (Host.dotGeneral dot_S1024x150528_S150528x64_S1024x64_1_0_0_1_n_n none
      (shapeCast S1024x150528 x shapeCasts_S1024x3x224x224_S1024x150528)
      (transpose S150528x64 [1, 0] w transposes_S64x150528_S150528x64_1_0))
    (broadcastInDim S1024x64 ![0, 1] bcast_S1x64_S1024x64_0_1 (broadcastInDim S1x64 ![1] bcast_S64_S1x64_1 b))

/-- The reference's arg-max over the experts of an array of logits. -/
def refChoice (z : FVec F S1024x64 .f32) : IVec S1024 32 := fun j =>
  (Host.argReduce reducer_argmax_f32_i32 z (iotaInDim S1024x64 32 1) (constant S_ .f32 0xFF800000#32)
    (constantI S_ 32 0#32) reducesTo_S1024x64_S1024_d1 h_S_ j).2

/-- From any memory with zero counters every run of the reference ends, its result the arg-max of its logits and its
    three arguments as they were. -/
theorem refRun (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v6)
        = refChoice (refLogits (m ((c.tc : Thread nD τ).loc main_arg0)) (m ((c.tc : Thread nD τ).loc main_arg1))
            (m ((c.tc : Thread nD τ).loc main_arg2)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c main_v6).trans (by after_results; rfl), (h c main_arg0).trans (by after_results),
      (h c main_arg1).trans (by after_results), (h c main_arg2).trans (by after_results)⟩)
    (run_seq refBuffers_unscoped refSems_unscoped defs main (fun _ => refOps) refMain_eq (fun _ => refOps_sub) m ρ)

/-- The reference leaves its arguments as they were and every counter at zero. -/
theorem refFrame : Cert.quiescent_ReferenceIdeal := fun m ρ _ =>
  (θ_run Cert.ReferenceIdeal.defs _ _).mono
    (fun r h => ⟨fun c => (h c).2, Idealize.ShloMosaic.sem_eq_zero_of_no_sems (by decide) r.2⟩)
    (refRun (F := Ideal) m ρ)

end Cert.Router

end
-- ==== Proof.Argmax.lean ====
/- Choosing an expert two ways: the reference folds (value, index) pairs keeping the greater value and, on equal values,
   the smaller index; the kernel takes the maximum and then the least index attaining it. Both give the least index of
   the maximum. -/
module

public import proofs.«01_k».proof.Proof.Gen.ReferenceIdeal
public import Idealize.ShloMosaic.PureOps.Ideal.Laws
public import Idealize.ShloMosaic.Lib.SortNet.Extract

@[expose] public section

set_option maxRecDepth 16384

noncomputable section

namespace Cert.Router

open Idealize.ShloMosaic

/-! ## The reference's body on one pair of pairs -/

/-- The reference's body keeps the first pair where its value is greater, or equal with a smaller index; else the second. -/
theorem body_eq (a b : EReal × BitVec 32) :
    Cert.ReferenceIdeal.reducer_argmax_f32_i32 (F := Ideal) a b
      = if b.1 < a.1 ∨ (a.1 = b.1 ∧ a.2.toInt < b.2.toInt) then a else b := by
  obtain ⟨a1, a2⟩ := a
  obtain ⟨b1, b2⟩ := b
  have hs : a2.slt b2 = decide (a2.toInt < b2.toInt) := rfl
  unfold Cert.ReferenceIdeal.reducer_argmax_f32_i32
  simp only [Ideal.cmpf_def, Ideal.cmp, IntOp.ori, IntOp.andi, IntOp.cmpi, Scalar.select, hs]
  rcases lt_trichotomy b1 a1 with h | h | h
  · simp [h, h.ne']
  · subst h
    by_cases hi : a2.toInt < b2.toInt <;> simp [hi]
  · simp [h.not_gt, h.ne]

/-! ## The reference's fold -/

/-- What the fold over a list of pairs holds: a value at least every value of the list, an index at most every index
    attaining that value, and the pair itself either the starting one or one of the list. -/
structure Best {ι : Type} (v : ι → EReal) (e : ι → BitVec 32) (r₀ : EReal × BitVec 32) (l : List ι) (r : EReal × BitVec 32) : Prop where
  ge : ∀ i ∈ l, v i ≤ r.1
  ge₀ : r₀.1 ≤ r.1
  le : ∀ i ∈ l, v i = r.1 → r.2.toInt ≤ (e i).toInt
  le₀ : r₀.1 = r.1 → r.2.toInt ≤ r₀.2.toInt
  mem : r = r₀ ∨ ∃ i ∈ l, r = (v i, e i)

/-- One more pair keeps that description. -/
theorem Best.snoc {ι : Type} {v : ι → EReal} {e : ι → BitVec 32} {r₀ r : EReal × BitVec 32} {l : List ι}
    (h : Best v e r₀ l r) (i : ι) :
    Best v e r₀ (l ++ [i]) (Cert.ReferenceIdeal.reducer_argmax_f32_i32 (F := Ideal) r (v i, e i)) := by
  rw [body_eq]
  dsimp only
  split_ifs with hc
  · refine ⟨?_, h.ge₀, ?_, h.le₀, ?_⟩
    · intro k hk
      rcases List.mem_append.1 hk with hk | hk
      · exact h.ge k hk
      · obtain rfl := List.mem_singleton.1 hk
        rcases hc with hc | hc
        · exact hc.le
        · exact hc.1.ge
    · intro k hk hv
      rcases List.mem_append.1 hk with hk | hk
      · exact h.le k hk hv
      · obtain rfl := List.mem_singleton.1 hk
        rcases hc with hc | hc
        · exact absurd hv hc.ne
        · exact hc.2.le
    · rcases h.mem with hm | ⟨k, hk, hm⟩
      · exact .inl hm
      · exact .inr ⟨k, List.mem_append_left _ hk, hm⟩
  · have h1 : r.1 ≤ v i := not_lt.1 fun hlt => hc (.inl hlt)
    have h2 : r.1 = v i → (e i).toInt ≤ r.2.toInt := fun he => not_lt.1 fun hlt => hc (.inr ⟨he, hlt⟩)
    refine ⟨?_, h.ge₀.trans h1, ?_, ?_, .inr ⟨i, by simp, rfl⟩⟩
    · intro k hk
      rcases List.mem_append.1 hk with hk | hk
      · exact (h.ge k hk).trans h1
      · obtain rfl := List.mem_singleton.1 hk
        exact le_rfl
    · intro k hk hv
      dsimp only at hv ⊢
      rcases List.mem_append.1 hk with hk | hk
      · have hr : r.1 = v i := le_antisymm h1 (hv ▸ h.ge k hk)
        exact (h2 hr).trans (h.le k hk (hv.trans hr.symm))
      · obtain rfl := List.mem_singleton.1 hk
        exact le_rfl
    · intro hv
      dsimp only at hv ⊢
      have hr : r.1 = v i := le_antisymm h1 (hv ▸ h.ge₀)
      exact (h2 hr).trans (h.le₀ (hv.trans hr.symm))

/-- The whole fold is described so. -/
theorem best_foldl {ι : Type} (v : ι → EReal) (e : ι → BitVec 32) (r₀ : EReal × BitVec 32) (l : List ι) :
    Best v e r₀ l (l.foldl (fun r i => Cert.ReferenceIdeal.reducer_argmax_f32_i32 (F := Ideal) r (v i, e i)) r₀) := by
  induction l using List.reverseRecOn with
  | nil => exact ⟨by simp, le_rfl, by simp, fun _ => le_rfl, .inl rfl⟩
  | append_singleton l i ih => rw [List.foldl_append]; exact ih.snoc i

/-! ## The least index of the maximum -/

/-- `n` is the least index at which `z` attains its maximum. -/
def IsChoice (z : Fin 64 → EReal) (n : Fin 64) : Prop := (∀ k, z k ≤ z n) ∧ ∀ k, z k = z n → n ≤ k

/-- There is only one such index. -/
theorem IsChoice.unique {z : Fin 64 → EReal} {n n' : Fin 64} (h : IsChoice z n) (h' : IsChoice z n') : n = n' :=
  le_antisymm (h.2 n' (le_antisymm (h.1 n') (h'.1 n))) (h'.2 n (le_antisymm (h'.1 n) (h.1 n')))

/-- An expert's number as a word reads back as the number. -/
theorem toInt_expert (n : Nat) (h : n ≤ 64) : (BitVec.ofNat 32 n).toInt = n := by
  have e := BitVec.toInt_eq_toNat_cond (BitVec.ofNat 32 n)
  have e2 : (BitVec.ofNat 32 n).toNat = n := by rw [BitVec.toNat_ofNat]; exact Nat.mod_eq_of_lt (by omega)
  omega

/-- The fold from (−∞, 0) over a list that names every expert ends at the least index of the maximum. -/
theorem foldl_choice {ι : Type} (z : Fin 64 → EReal) (p : ι → Fin 64) (l : List ι) (hl : ∀ k, ∃ i ∈ l, p i = k) :
    ∃ n : Fin 64, IsChoice z n ∧
      (l.foldl (fun r i => Cert.ReferenceIdeal.reducer_argmax_f32_i32 (F := Ideal) r (z (p i), BitVec.ofNat 32 (p i).val)) (⊥, 0#32)).2
        = BitVec.ofNat 32 n.val := by
  have h := best_foldl (fun i => z (p i)) (fun i => BitVec.ofNat 32 (p i).val) (⊥, 0#32) l
  generalize l.foldl _ _ = r at h ⊢
  have hge : ∀ k, z k ≤ r.1 := fun k => by obtain ⟨i, hi, rfl⟩ := hl k; exact h.ge i hi
  have hle : ∀ k, z k = r.1 → r.2.toInt ≤ (k.val : Int) := fun k hk => by
    obtain ⟨i, hi, rfl⟩ := hl k
    exact (h.le i hi hk).trans (toInt_expert _ (by omega)).le
  rcases h.mem with hm | ⟨i, hi, hm⟩
  · subst hm
    exact ⟨0, ⟨fun k => (hge k).trans bot_le, fun k _ => Fin.zero_le k⟩, rfl⟩
  · subst hm
    refine ⟨p i, ⟨hge, fun k hk => ?_⟩, rfl⟩
    have := hle k hk
    rw [toInt_expert _ (by omega)] at this
    exact Fin.le_def.2 (by omega)

/-! ## The kernel's two reductions -/

/-- A fold of signed minima is at most every word and at most its start, and is its start or one of the words. -/
theorem fold_minsi {ι : Type} [DecidableEq ι] (g : ι → BitVec 32) (b : BitVec 32) (s : Finset ι) :
    (∀ k ∈ s, (s.fold IntOp.minsi b g).toInt ≤ (g k).toInt)
      ∧ (s.fold IntOp.minsi b g = b ∨ ∃ k ∈ s, s.fold IntOp.minsi b g = g k) := by
  induction s using Finset.induction_on with
  | empty => simp
  | insert a s ha ih =>
    rw [Finset.fold_insert ha]
    have ht := SortNet.toInt_minsi (g a) (s.fold IntOp.minsi b g)
    refine ⟨fun k hk => ?_, ?_⟩
    · rw [ht]
      rcases Finset.mem_insert.1 hk with rfl | hk
      · exact min_le_left _ _
      · exact (min_le_right _ _).trans (ih.1 k hk)
    · have hsel : IntOp.minsi (g a) (s.fold IntOp.minsi b g) = g a
          ∨ IntOp.minsi (g a) (s.fold IntOp.minsi b g) = s.fold IntOp.minsi b g := by
        unfold IntOp.minsi; split_ifs <;> simp
      rcases hsel with hsel | hsel
      · exact .inr ⟨a, Finset.mem_insert_self a s, hsel⟩
      · rw [hsel]
        rcases ih.2 with h0 | ⟨k, hk, h0⟩
        · exact .inl h0
        · exact .inr ⟨k, Finset.mem_insert_of_mem hk, h0⟩

/-- The least masked index — an expert's number where its value is the maximum, 64 elsewhere — is the least index of the
    maximum. -/
theorem masked_choice (z : Fin 64 → EReal) (n : Fin 64) (hn : IsChoice z n) :
    (Finset.univ : Finset (Fin 64)).fold IntOp.minsi 2147483647#32
        (fun k => Scalar.select (Ideal.cmp .oeq (z k) ((Finset.univ : Finset (Fin 64)).fold max ⊥ z)) (BitVec.ofNat 32 k.val) 64#32)
      = BitVec.ofNat 32 n.val := by
  have hmax : (Finset.univ : Finset (Fin 64)).fold max ⊥ z = z n :=
    le_antisymm (Finset.fold_max_le _ |>.2 ⟨bot_le, fun k _ => hn.1 k⟩) (Finset.le_fold_max _ |>.2 (.inr ⟨n, Finset.mem_univ n, le_rfl⟩))
  rw [hmax]
  have hg : ∀ k, Scalar.select (Ideal.cmp .oeq (z k) (z n)) (BitVec.ofNat 32 k.val) 64#32
      = if z k = z n then BitVec.ofNat 32 k.val else 64#32 := fun k => by
    by_cases h : z k = z n <;> simp [Ideal.cmp, Scalar.select, h]
  simp only [hg]
  obtain ⟨hle, hmem⟩ := fold_minsi (fun k : Fin 64 => if z k = z n then BitVec.ofNat 32 k.val else 64#32) 2147483647#32 Finset.univ
  have h1 := hle n (Finset.mem_univ n)
  rw [if_pos rfl, toInt_expert _ (by omega)] at h1
  have hlt := n.isLt
  rcases hmem with h0 | ⟨k, -, h0⟩
  · rw [h0] at h1
    have : (2147483647#32).toInt = 2147483647 := by decide
    omega
  · rw [h0] at h1 ⊢
    by_cases hk : z k = z n
    · rw [if_pos hk, toInt_expert _ (by omega)] at h1
      rw [if_pos hk]
      have := Fin.le_def.1 (hn.2 k hk)
      rw [show k.val = n.val by omega]
    · rw [if_neg hk] at h1
      have : (64#32).toInt = 64 := by decide
      omega

end Cert.Router

end
-- ==== Proof.Body.lean ====
/- What one grid point leaves behind, case by case: the kernel's first point, a middle point and the last point, each
   as the plain function of the blocks it reads and of the accumulator it finds. -/
module

public import proofs.«01_k».proof.Proof.Gen.KernelIdeal.Frame
public import Idealize.ShloMosaic.Lib.Pipeline.Value
public import Idealize.ShloMosaic.Lib.Tactic

@[expose] public section

set_option maxRecDepth 16384

noncomputable section

namespace Cert.Router

open Idealize.ShloMosaic Idealize.ShloMosaic.TcCoe Idealize.ShloMosaic.Tactic
open Cert.KernelIdeal Cert.KernelIdeal.Gen

variable {F : FTy → Type} [FloatOps F]

/-- The offsets of a whole-buffer access are zero on both axes. -/
theorem offsets_zero : (![0, 0] : Fin 2 → Nat) = fun _ => 0 := funext fun a => by fin_cases a <;> rfl

section Cases

variable (c : Dev nD) (i : grid0.Coords)
  (a1 : Memref sig .tc .vmem S1536x1024 .f32) (h1 : a1.IsWhole) (a2 : Memref sig .tc .vmem S64x1536 .f32) (h2 : a2.IsWhole)
  (a3 : Memref sig .tc .vmem S64x1 .f32) (h3 : a3.IsWhole) (a4 : Memref sig .tc .vmem S1x1024 .i32) (h4 : a4.IsWhole)
  (a5 : Memref sig .tc .vmem S64x1024 .f32) (h5 : a5.IsWhole)
  (x : Vec F S1536x1024 .f32) (w : Vec F S64x1536 .f32) (b : Vec F S64x1 .f32) (acc : Vec F S64x1024 .f32)

/-- The first point leaves in the accumulator the product of the two blocks with the bias added to every column. -/
theorem first_acc (hc0 : cond0_0 i) (hc1 : ¬cond0_1 i) (hc2 : ¬cond0_2 i) :
    sout0_A_0 c i a1 h1 a2 h2 a3 h3 a4 h4 a5 h5 hc0 hc1 hc2 x w b = k0_pay2 w x b := by
  unfold sout0_A_0
  rw [View.read_writes_eq_canon _ _ _ (scover0_A_0 c i a1 h1 a2 h2 a3 h3 a4 h4 a5 h5 hc0 hc1 hc2 x w b)]
  unfold kernelRun0_A
  dsimp only
  rw [View.canon_unit_zero offsets_zero]
  simp only [View.readAt_eq_ld, h1.read_unread, h2.read_unread, h3.read_unread,
    View.ld_unit_zero (S := S1536x1024) offsets_zero, View.ld_unit_zero (S := S64x1536) offsets_zero,
    View.ld_unit_zero (S := S64x1) offsets_zero]

/-- A middle point adds the product of its two blocks to the accumulator it finds. -/
theorem middle_acc (hc0 : ¬cond0_0 i) (hc1 : cond0_1 i) (hc2 : ¬cond0_2 i) :
    sout0_B_0 c i a1 h1 a2 h2 a3 h3 a4 h4 a5 h5 hc0 hc1 hc2 x w b acc = k0_pay3 w x acc := by
  unfold sout0_B_0
  rw [View.read_writes_eq_canon _ _ _ (scover0_B_0 c i a1 h1 a2 h2 a3 h3 a4 h4 a5 h5 hc0 hc1 hc2 x w b acc)]
  unfold kernelRun0_B
  dsimp only
  rw [View.canon_unit_zero offsets_zero]
  simp only [View.readAt_eq_ld, h1.read_unread, h2.read_unread, h5.read_unread,
    View.ld_unit_zero (S := S1536x1024) offsets_zero, View.ld_unit_zero (S := S64x1536) offsets_zero,
    View.ld_unit_zero (S := S64x1024) offsets_zero]

/-- The last point reads back the accumulator it has just completed and stores the row of chosen experts. -/
theorem last_out (hc0 : ¬cond0_0 i) (hc1 : cond0_1 i) (hc2 : cond0_2 i) :
    out0_C_3 c i a1 h1 a2 h2 a3 h3 a4 h4 a5 h5 hc0 hc1 hc2 x w b acc = k0_pay4 (k0_pay3 w x acc) := by
  unfold out0_C_3
  rw [View.read_writes_eq_canon _ _ _ (cover0_C_3 c i a1 h1 a2 h2 a3 h3 a4 h4 a5 h5 hc0 hc1 hc2 x w b acc)]
  unfold kernelRun0_C
  dsimp only
  sl_unfold_words
  rw [View.canon_unit_zero offsets_zero, View.readCov_unit_zero (S := S64x1024) _ offsets_zero]
  simp only [View.readAt_eq_ld, h1.read_unread, h2.read_unread, h5.read_unread,
    View.ld_unit_zero (S := S1536x1024) offsets_zero, View.ld_unit_zero (S := S64x1536) offsets_zero,
    View.ld_unit_zero (S := S64x1024) offsets_zero]

end Cases

/-- The accumulator after point `n`: the first point's product plus bias, then one product more at every point. -/
def accum (m : (ℓ : Loc nD τ sig) → Buf (Elt F) ℓ) (c : Dev nD) : (n : ℕ) → n < cfg0.N → Vec F S64x1024 .f32
  | 0, h => k0_pay2 (iblk m c 1 ⟨0, h⟩) (iblk m c 0 ⟨0, h⟩) (iblk m c 2 ⟨0, h⟩)
  | n + 1, h => k0_pay3 (iblk m c 1 ⟨n + 1, h⟩) (iblk m c 0 ⟨n + 1, h⟩) (accum m c n (Nat.lt_of_succ_lt h))

/-- The accumulator after the first point. -/
theorem accum_zero (m : (ℓ : Loc nD τ sig) → Buf (Elt F) ℓ) (c : Dev nD) (h : 0 < cfg0.N) :
    accum m c 0 h = k0_pay2 (iblk m c 1 ⟨0, h⟩) (iblk m c 0 ⟨0, h⟩) (iblk m c 2 ⟨0, h⟩) := rfl

/-- The accumulator after a later point, from the point before. -/
theorem accum_succ (m : (ℓ : Loc nD τ sig) → Buf (Elt F) ℓ) (c : Dev nD) (n : ℕ) (h : n + 1 < cfg0.N) :
    accum m c (n + 1) h = k0_pay3 (iblk m c 1 ⟨n + 1, h⟩) (iblk m c 0 ⟨n + 1, h⟩) (accum m c n (Nat.lt_of_succ_lt h)) := rfl

/-- The first point leaves the first accumulator in the carried scratch. -/
theorem carried_zero (m : (ℓ : Loc nD τ sig) → Buf (Elt F) ℓ) (c : Dev nD) (h : 0 < cfg0.N) :
    (outsAt0 m c 0 h).2 = accum m c 0 h := by
  rw [accum_zero]
  refine (congrArg Prod.snd (outsAt0_A m c ⟨0, h⟩ (Nat.zero_mod _) (show ¬1 ≤ 0 by omega) (show ¬0 % 98 = 97 by omega))).trans ?_
  dsimp only
  rw [first_acc]

/-- A middle point adds its product to what the point before left in the carried scratch. -/
theorem carried_succ (m : (ℓ : Loc nD τ sig) → Buf (Elt F) ℓ) (c : Dev nD) (n : ℕ) (h : n + 1 < cfg0.N) (hn : n + 1 < 97) :
    (outsAt0 m c (n + 1) h).2
      = k0_pay3 (iblk m c 1 ⟨n + 1, h⟩) (iblk m c 0 ⟨n + 1, h⟩) (outsAt0 m c n (Nat.lt_of_succ_lt h)).2 := by
  refine (congrArg Prod.snd (outsAt0_B m c ⟨n + 1, h⟩ (show ¬(n + 1) % 98 = 0 by omega) (show 1 ≤ n + 1 by omega)
    (show ¬(n + 1) % 98 = 97 by omega))).trans ?_
  dsimp only
  rw [middle_acc]
  rfl

/-- At every point before the last the carried scratch holds the accumulator. -/
theorem carried_eq (m : (ℓ : Loc nD τ sig) → Buf (Elt F) ℓ) (c : Dev nD) (n : ℕ) :
    ∀ (h : n < cfg0.N), n < 97 → (outsAt0 m c n h).2 = accum m c n h := by
  induction n with
  | zero => exact fun h _ => carried_zero m c h
  | succ n ih =>
    intro h hn
    rw [carried_succ m c n h hn, ih (Nat.lt_of_succ_lt h) (by omega), accum_succ]

/-- The output window's buffer holds, after the last point, the chosen experts of the complete accumulator. -/
theorem chosen_eq (m : (ℓ : Loc nD τ sig) → Buf (Elt F) ℓ) (c : Dev nD) (n : ℕ) (h : n + 1 < cfg0.N) (hn : n + 1 = 97) :
    (outsAt0 m c (n + 1) h).1 = k0_pay4 (accum m c (n + 1) h) := by
  refine (congrArg Prod.fst (outsAt0_C m c ⟨n + 1, h⟩ (show ¬(n + 1) % 98 = 0 by omega) (show 1 ≤ n + 1 by omega)
    (show (n + 1) % 98 = 97 by omega))).trans ?_
  dsimp only
  rw [last_out, accum_succ, ← carried_eq m c n (Nat.lt_of_succ_lt h) (by omega)]
  rfl

end Cert.Router

end
-- ==== Proof.Choice.lean ====
/- The chosen expert of one token, read off an array of logits: what the reference's arg-max gives and what the kernel's
   last store gives, on the same logits, is the same number. -/
module

public import proofs.«01_k».proof.Proof.RefRun
public import proofs.«01_k».proof.Proof.Argmax
public import proofs.«01_k».proof.Proof.Body
public import Idealize.ShloMosaic.Lib.Pipeline.Value
public import Idealize.ShloMosaic.Lib.ValueIdx

@[expose] public section

set_option maxRecDepth 16384

noncomputable section

namespace Cert.Router

open Idealize.ShloMosaic Idealize.ShloMosaic.ValueIdx

/-- The kernel and the reference both start their maximum at minus infinity. -/
theorem start_bot : Ideal.ofBits .f32 0xFF800000#32 = ⊥ := by simp [Ideal.ofBits, Ideal.ieee]

/-! ## The reference -/

section Ref

open Cert.ReferenceIdeal Cert.ReferenceIdeal.Gen

/-- Removing the expert's coordinate leaves the token's. -/
theorem drop_token (i : S1024x64.Idx) (j : Fin 1024) :
    (reducesTo_S1024x64_S1024_d1 : S1024x64.ReducesTo [1] S1024).drop i = ix1 j ↔ i 0 = j := by
  have h0 := Shape.ReducesTo.drop_apply_val_of_eq (reducesTo_S1024x64_S1024_d1 : S1024x64.ReducesTo [1] S1024) i 0 0
  constructor
  · intro h
    rw [h] at h0
    exact Fin.ext h0.symm
  · intro h
    funext a
    match a with
    | ⟨0, _⟩ => exact Fin.ext (h0.trans (congrArg Fin.val h))

/-- The reference's arg-max at token `j` is the least index of the maximum of the token's logits. -/
theorem refChoice_apply (z : FVec Ideal S1024x64 .f32) (j : Fin 1024) :
    ∃ n : Fin 64, IsChoice (fun e => z (ix2 j e)) n ∧ refChoice z (ix1 j) = BitVec.ofNat 32 n.val := by
  obtain ⟨n, hn, h⟩ := foldl_choice (fun e => z (ix2 j e)) (fun k : Fin S1024x64.numel => S1024x64.rowMajor.symm k 1)
    ((List.finRange S1024x64.numel).filter fun k =>
      (reducesTo_S1024x64_S1024_d1 : S1024x64.ReducesTo [1] S1024).drop (S1024x64.rowMajor.symm k) = ix1 j)
    (fun k => ⟨S1024x64.rowMajor (ix2 j k), by
      rw [List.mem_filter]
      refine ⟨List.mem_finRange _, ?_⟩
      rw [decide_eq_true_eq, Equiv.symm_apply_apply, drop_token], by simp only [Equiv.symm_apply_apply]⟩)
  refine ⟨n, hn, Eq.trans ?_ h⟩
  unfold refChoice
  rw [Ideal.argReduce_eq_reduce2]
  unfold Host.reduce2
  have hs : ((constant S_ .f32 0xFF800000#32 : FVec Ideal S_ .f32) (Shape.Idx.first h_S_),
      (constantI S_ 32 0#32 : IVec S_ 32) (Shape.Idx.first h_S_)) = ((⊥ : EReal), 0#32) :=
    Prod.ext start_bot rfl
  rw [hs]
  refine congrArg Prod.snd (List.foldl_ext _ _ _ fun r k hk => ?_)
  have hk' := (drop_token _ j).1 (of_decide_eq_true (List.mem_filter.1 hk).2)
  have hi : S1024x64.rowMajor.symm k = ix2 j (S1024x64.rowMajor.symm k 1) := by
    rw [← hk']; exact eq_ix2 _
  have hz : z (S1024x64.rowMajor.symm k) = z (ix2 j (S1024x64.rowMajor.symm k 1)) := congrArg z hi
  rw [hz]
  rfl

end Ref

/-! ## The kernel -/

section Ker

open Cert.KernelIdeal Cert.KernelIdeal.Gen

/-- Inserting an expert's coordinate before a token's. -/
theorem lift_expert (j : Fin 1024) (k : Fin 64) :
    (reduces_S64x1024_S1024 : S64x1024.Reduces [0] S1024).lift (ix1 j) k = ix2 k j := by
  funext a
  apply Fin.ext
  match a with
  | ⟨0, _⟩ => rfl
  | ⟨1, _⟩ => rfl

/-- The kernel's last store at token `j` is the least index of the maximum of the token's logits. -/
theorem k0_pay4_apply (z : FVec Ideal S64x1024 .f32) (j : Fin 1024) (n : Fin 64) (hn : IsChoice (fun e => z (ix2 e j)) n) :
    k0_pay4 (F := Ideal) z (ix2 0 j) = BitVec.ofNat 32 n.val := by
  refine Eq.trans ?_ (masked_choice _ n hn)
  unfold k0_pay4
  dsimp only
  rw [shapeCast_apply _ _ (ix2 0 j) (ix1 j) (by
    rw [Shape.rowMajor_val_one, Shape.rowMajor_val_two]; show j.val = 0 * 1024 + j.val; omega)]
  refine (multiReductionI_eq_fold _ _ _ _ _ _).trans ?_
  refine (Shape.Reduces.fold_filter_drop_single reduces_S64x1024_S1024 IntOp.minsi _ _ _).trans ?_
  refine Finset.fold_congr fun (k : Fin 64) _ => ?_
  have hb : broadcastTo S64x1024 (shapeCast S1x1024 (multiReduction (F := Ideal) .maximumf [0] S1024 z 0xFF800000#32
        reduces_S64x1024_S1024 (.inl rfl) rfl) shapeCasts_S1024_S1x1024) broadcasts_S1x1024_S64x1024 (ix2 k j)
      = (Finset.univ : Finset (Fin 64)).fold max ⊥ (fun e => z (ix2 e j)) := by
    rw [broadcastTo_apply _ _ (ix2 k j) (ix2 0 j) (fun a => by
        match a with
        | ⟨0, _⟩ => rfl
        | ⟨1, _⟩ => rfl),
      shapeCast_apply _ _ (ix2 0 j) (ix1 j) (by
        rw [Shape.rowMajor_val_one, Shape.rowMajor_val_two]; show j.val = 0 * 1024 + j.val; omega)]
    refine (Ideal.multiReduction_maximumf_single _ _ _ _ _ _).trans ?_
    rw [show (FloatOps.ofBits (F := Ideal) .f32 0xFF800000#32 : EReal) = ⊥ from start_bot]
    exact Finset.fold_congr fun e _ => congrArg z (lift_expert j e)
  have hl := lift_expert j k
  show Scalar.select (Ideal.cmp .oeq (z (Shape.Reduces.lift reduces_S64x1024_S1024 (ix1 j) k))
    (broadcastTo S64x1024 _ broadcasts_S1x1024_S64x1024 (Shape.Reduces.lift reduces_S64x1024_S1024 (ix1 j) k)))
      (iota .tc S64x1024 32 [0] iota_S64x1024_d0_w32 (Shape.Reduces.lift reduces_S64x1024_S1024 (ix1 j) k)) 64#32 = _
  rw [hl, hb]
  refine congrArg (fun w => Scalar.select _ w 64#32) ?_
  show BitVec.ofNat 32 (0 * 64 + k.val) = _
  rw [Nat.zero_mul, Nat.zero_add]

/-- On logits that agree entry by entry — the kernel's experts by tokens, the reference's tokens by experts — the kernel's
    last store, flattened, is the reference's arg-max. -/
theorem choice_eq (z' : FVec Ideal S64x1024 .f32) (z : FVec Ideal Cert.ReferenceIdeal.S1024x64 .f32)
    (h : ∀ (e : Fin 64) (j : Fin 1024), z' (ix2 e j) = z (ix2 j e)) :
    shapeCast S1024 (k0_pay4 (F := Ideal) z') shapeCasts_S1x1024_S1024 = refChoice z := by
  funext i
  obtain ⟨j, rfl⟩ : ∃ j : Fin 1024, i = ix1 j := ⟨i 0, eq_ix1 i⟩
  obtain ⟨n, hn, hr⟩ := refChoice_apply z j
  rw [shapeCast_apply _ _ (ix1 j) (ix2 0 j) (by
    rw [Shape.rowMajor_val_one, Shape.rowMajor_val_two]; show 0 * 1024 + j.val = j.val; omega), hr]
  exact k0_pay4_apply z' j n (by rwa [show (fun e => z' (ix2 e j)) = fun e => z (ix2 j e) from funext fun e => h e j])

end Ker

end Cert.Router

end
-- ==== Proof.Logits.lean ====
/- The logits: the kernel's blocks read at an index of the arguments, its accumulator after every point as a partial sum
   over the flattened pixels plus the bias, and the reference's logits as the whole sum. -/
module

public import proofs.«01_k».proof.Proof.RefRun
public import proofs.«01_k».proof.Proof.Body
public import Idealize.ShloMosaic.Lib.Claim
public import Idealize.ShloMosaic.Lib.MatmulPlain
public import Idealize.ShloMosaic.Lib.StackMember
public import Idealize.ShloMosaic.Lib.Pipeline.Value

@[expose] public section

set_option maxRecDepth 16384

noncomputable section

namespace Cert.Router

open Idealize.ShloMosaic Idealize.ShloMosaic.TcCoe Idealize.ShloMosaic.ValueIdx
open Cert.KernelIdeal Cert.KernelIdeal.Gen

/-! ## The flattened image -/

/-- Pixel `k` of token `j` in the images flattened token by token (the reference's order) is row `k`, column `j` of the
    images transposed to put the token last and then flattened (the kernel's order). -/
theorem pixel_eq {α : Type} (x : S1024x3x224x224.Idx → α) (k : Fin 150528) (j : Fin 1024) :
    shapeCast S150528x1024 (transpose S3x224x224x1024 [1, 2, 3, 0] x transposes_S1024x3x224x224_S3x224x224x1024_1_2_3_0)
        shapeCasts_S3x224x224x1024_S150528x1024 (ix2 k j)
      = shapeCast Cert.ReferenceIdeal.S1024x150528 x Cert.ReferenceIdeal.Gen.shapeCasts_S1024x3x224x224_S1024x150528 (ix2 j k) := by
  have hr := Shape.rowMajor_reshapeEquiv Cert.ReferenceIdeal.Gen.shapeCasts_S1024x3x224x224_S1024x150528 (ix2 j k)
  show _ = x (Shape.reshapeEquiv Cert.ReferenceIdeal.Gen.shapeCasts_S1024x3x224x224_S1024x150528 (ix2 j k))
  generalize Shape.reshapeEquiv Cert.ReferenceIdeal.Gen.shapeCasts_S1024x3x224x224_S1024x150528 (ix2 j k) = i at hr ⊢
  rw [Shape.rowMajor_val_four, Shape.rowMajor_val_two] at hr
  have hr' : (((i 0).val * 3 + (i 1).val) * 224 + (i 2).val) * 224 + (i 3).val = j.val * 150528 + k.val := hr
  have h0 : (i 0).val < 1024 := (i 0).isLt
  have h1 : (i 1).val < 3 := (i 1).isLt
  have h2 : (i 2).val < 224 := (i 2).isLt
  have h3 : (i 3).val < 224 := (i 3).isLt
  have hk := k.isLt
  have hj := j.isLt
  have e0 : (i 0).val = j.val := by omega
  let i' : S3x224x224x1024.Idx := fun a => match a with
    | ⟨0, _⟩ => i 1
    | ⟨1, _⟩ => i 2
    | ⟨2, _⟩ => i 3
    | ⟨3, _⟩ => i 0
  rw [shapeCast_apply _ _ (ix2 k j) i' (by
    rw [Shape.rowMajor_val_four, Shape.rowMajor_val_two]
    show (((i 1).val * 224 + (i 2).val) * 224 + (i 3).val) * 1024 + (i 0).val = k.val * 1024 + j.val
    omega)]
  exact transpose_apply _ _ _ i' i (fun b => by
    match b with
    | ⟨0, _⟩ => rfl
    | ⟨1, _⟩ => rfl
    | ⟨2, _⟩ => rfl
    | ⟨3, _⟩ => rfl)

/-! ## The blocks -/

variable (m : (ℓ : Loc nD τ sig) → Buf (Elt Ideal) ℓ)

/-- A point's number as the index maps compute it. -/
theorem coord_val (t : Fin cfg0.N) : (BitVec.ofNat 32 ((grid0.coords t) 0).val).toNat = t.val := by
  have hN : cfg0.N = 98 := N_0
  have h := t.isLt
  have hc : ((grid0.coords t) 0).val = t.val / 1 % 98 := Pipeline.Grid.coords_val t 0 (by decide) (by decide)
  rw [hc, BitVec.toNat_ofNat]
  omega

/-- Window 0's block at point `t` starts at row block `t`, column block 0. -/
theorem index_0 (t : Fin cfg0.N) : win0_0.index t 0 = t.val ∧ win0_0.index t 1 = 0 := ⟨coord_val t, rfl⟩

/-- Window 1's block at point `t` starts at row block 0, column block `t`. -/
theorem index_1 (t : Fin cfg0.N) : win0_1.index t 0 = 0 ∧ win0_1.index t 1 = t.val := ⟨rfl, coord_val t⟩

/-- Window 2's block is the whole bias column at every point. -/
theorem index_2 (t : Fin cfg0.N) : win0_2.index t 0 = 0 ∧ win0_2.index t 1 = 0 := ⟨rfl, rfl⟩

/-- The pixel that row `k` of point `t`'s block holds. -/
theorem pixel_lt (t : Fin cfg0.N) (k : Fin 1536) : 1536 * t.val + k.val < 150528 := by
  have hN : cfg0.N = 98 := N_0
  have h := t.isLt
  omega

/-- The image block at point `t`: row `k`, column `j` is pixel `1536 t + k` of token `j`. -/
theorem image_block (c : Dev nD) (t : Fin cfg0.N) (k : Fin 1536) (j : Fin 1024) :
    (iblk m c 0 t : FVec Ideal S1536x1024 .f32) (ix2 k j)
      = shapeCast Cert.ReferenceIdeal.S1024x150528 (m ((c.tc : Thread nD τ).loc main_arg0))
          Cert.ReferenceIdeal.Gen.shapeCasts_S1024x3x224x224_S1024x150528 (ix2 j ⟨1536 * t.val + k.val, pixel_lt t k⟩) := by
  rw [← pixel_eq]
  have e : (V m c main_v1 : S150528x1024.Idx → EReal) = shapeCast S150528x1024 (transpose S3x224x224x1024 [1, 2, 3, 0]
      (m ((c.tc : Thread nD τ).loc main_arg0)) transposes_S1024x3x224x224_S3x224x224x1024_1_2_3_0)
        shapeCasts_S3x224x224x1024_S150528x1024 := by
    entry_read
    rfl
  rw [← e]
  unfold iblk
  rw [View.read_apply]
  show V m c main_v1 _ = V m c main_v1 _
  congr 1
  funext a
  apply Fin.ext
  match a with
  | ⟨0, _⟩ => show win0_0.index t 0 * 1536 + 1 * k.val = 1536 * t.val + k.val; rw [(index_0 t).1]; omega
  | ⟨1, _⟩ => show win0_0.index t 1 * 1024 + 1 * j.val = j.val; rw [(index_0 t).2]; omega

/-- The weight block at point `t`: row `e`, column `k` is expert `e`'s weight of pixel `1536 t + k`. -/
theorem weight_block (c : Dev nD) (t : Fin cfg0.N) (e : Fin 64) (k : Fin 1536) :
    (iblk m c 1 t : FVec Ideal S64x1536 .f32) (ix2 e k)
      = (m ((c.tc : Thread nD τ).loc main_arg1) : FVec Ideal S64x150528 .f32) (ix2 e ⟨1536 * t.val + k.val, pixel_lt t k⟩) := by
  have h1 : (V m c main_arg1 : S64x150528.Idx → EReal) = m ((c.tc : Thread nD τ).loc main_arg1) := V_main_arg1 m c
  rw [← h1]
  unfold iblk
  rw [View.read_apply]
  show V m c main_arg1 _ = V m c main_arg1 _
  congr 1
  funext a
  apply Fin.ext
  match a with
  | ⟨0, _⟩ => show win0_1.index t 0 * 64 + 1 * e.val = e.val; rw [(index_1 t).1]; omega
  | ⟨1, _⟩ => show win0_1.index t 1 * 1536 + 1 * k.val = 1536 * t.val + k.val; rw [(index_1 t).2]; omega

/-- The bias block at any point: row `e` is expert `e`'s bias. -/
theorem bias_block (c : Dev nD) (t : Fin cfg0.N) (e : Fin 64) :
    (iblk m c 2 t : FVec Ideal S64x1 .f32) (ix2 e 0) = (m ((c.tc : Thread nD τ).loc main_arg2) : FVec Ideal S64 .f32) (ix1 e) := by
  have h2 : (V m c main_v2 : S64x1.Idx → EReal) = shapeCast S64x1 (m ((c.tc : Thread nD τ).loc main_arg2)) shapeCasts_S64_S64x1 := by
    entry_read
    rfl
  have h3 : (V m c main_v2 : S64x1.Idx → EReal) (ix2 e 0) = (m ((c.tc : Thread nD τ).loc main_arg2) : FVec Ideal S64 .f32) (ix1 e) := by
    rw [h2]
    exact shapeCast_apply _ _ (ix2 e 0) (ix1 e) (by
      rw [Shape.rowMajor_val_one, Shape.rowMajor_val_two]; show e.val = e.val * 1 + 0; omega)
  rw [← h3]
  unfold iblk
  rw [View.read_apply]
  show V m c main_v2 _ = V m c main_v2 _
  congr 1
  funext a
  apply Fin.ext
  match a with
  | ⟨0, _⟩ => show win0_2.index t 0 * 64 + 1 * e.val = e.val; rw [(index_2 t).1]; omega
  | ⟨1, _⟩ => show win0_2.index t 1 * 1 + 1 * 0 = 0; rw [(index_2 t).2]

/-! ## The accumulator -/

/-- The images flattened token by token. -/
abbrev pixels (x : FVec Ideal S1024x3x224x224 .f32) : FVec Ideal Cert.ReferenceIdeal.S1024x150528 .f32 :=
  shapeCast Cert.ReferenceIdeal.S1024x150528 x Cert.ReferenceIdeal.Gen.shapeCasts_S1024x3x224x224_S1024x150528

/-- The product of expert `e`'s weight and token `j`'s value at pixel `k` (zero past the last pixel). -/
def term (x : FVec Ideal S1024x3x224x224 .f32) (w : FVec Ideal S64x150528 .f32) (e : Fin 64) (j : Fin 1024) (k : ℕ) : EReal :=
  if h : k < 150528 then w (ix2 e ⟨k, h⟩) * pixels x (ix2 j ⟨k, h⟩) else 0

/-- A block's product at an index: the sum over the contracted coordinate. -/
theorem k0_pay1_apply (w : FVec Ideal S64x1536 .f32) (x : FVec Ideal S1536x1024 .f32) (e : Fin 64) (j : Fin 1024) :
    k0_pay1 (F := Ideal) w x (ix2 e j) = ∑ k : Fin 1536, w (ix2 e k) * x (ix2 k j) := by
  unfold k0_pay1
  rw [shapeCast_self]
  refine (Ideal.matmul_plain_apply none _ _ _ e j).trans ?_
  rw [show (constant S64x1024 .f32 0x00000000#32 : FVec Ideal S64x1024 .f32) (ix2 e j) = 0 from Ideal.ofBits_zero_f32, zero_add]
  rfl

/-- Point `t`'s product adds the terms of its 1536 pixels. -/
theorem part_eq (c : Dev nD) (t : Fin cfg0.N) (e : Fin 64) (j : Fin 1024) :
    k0_pay1 (F := Ideal) (iblk m c 1 t) (iblk m c 0 t) (ix2 e j)
      = ∑ k ∈ Finset.range 1536, term (m ((c.tc : Thread nD τ).loc main_arg0)) (m ((c.tc : Thread nD τ).loc main_arg1)) e j (1536 * t.val + k) := by
  refine (k0_pay1_apply _ _ e j).trans ?_
  rw [Finset.sum_range]
  refine Finset.sum_congr rfl fun k _ => ?_
  have hw := weight_block m c t e k
  have hx := image_block m c t k j
  unfold term
  rw [dif_pos (pixel_lt t k)]
  exact congrArg₂ (· * ·) hw hx

/-- After point `n` the accumulator holds the terms of the first `1536 (n + 1)` pixels, plus the bias. -/
theorem accum_apply (c : Dev nD) (e : Fin 64) (j : Fin 1024) (n : ℕ) (h : n < cfg0.N) :
    accum m c n h (ix2 e j) = (∑ k ∈ Finset.range (1536 * (n + 1)), term (m ((c.tc : Thread nD τ).loc main_arg0)) (m ((c.tc : Thread nD τ).loc main_arg1)) e j k)
      + (m ((c.tc : Thread nD τ).loc main_arg2) : FVec Ideal S64 .f32) (ix1 e) := by
  induction n with
  | zero =>
    rw [accum_zero]
    unfold k0_pay2
    rw [shapeCast_self, shapeCast_self]
    have hp := part_eq m c ⟨0, h⟩ e j
    have hb : broadcastTo S64x1024 (iblk m c 2 ⟨0, h⟩ : FVec Ideal S64x1 .f32) broadcasts_S64x1_S64x1024 (ix2 e j)
        = (m ((c.tc : Thread nD τ).loc main_arg2) : FVec Ideal S64 .f32) (ix1 e) := by
      rw [← bias_block m c ⟨0, h⟩ e]
      exact broadcastTo_apply _ _ (ix2 e j) (ix2 e 0) (fun a => by
        match a with
        | ⟨0, _⟩ => rfl
        | ⟨1, _⟩ => rfl)
    refine (congrArg₂ (· + ·) hp hb).trans ?_
    simp only [Nat.mul_zero, Nat.zero_add, Nat.mul_one]
  | succ n ih =>
    rw [accum_succ]
    unfold k0_pay3
    rw [shapeCast_self]
    have hp := part_eq m c ⟨n + 1, h⟩ e j
    refine (congrArg₂ (· + ·) (ih (Nat.lt_of_succ_lt h)) hp).trans ?_
    rw [show 1536 * (n + 1 + 1) = 1536 * (n + 1) + 1536 by omega, Finset.sum_range_add]
    exact add_right_comm _ _ _

/-! ## The reference's logits -/

/-- The reference's logit of token `j` and expert `e`: the sum over the pixels, plus the bias. -/
theorem refLogits_apply (x : FVec Ideal S1024x3x224x224 .f32) (w : FVec Ideal S64x150528 .f32) (b : FVec Ideal S64 .f32)
    (j : Fin 1024) (e : Fin 64) :
    refLogits (F := Ideal) x w b (ix2 j e)
      = (∑ k : Fin 150528, shapeCast Cert.ReferenceIdeal.S1024x150528 x
          Cert.ReferenceIdeal.Gen.shapeCasts_S1024x3x224x224_S1024x150528 (ix2 j k) * w (ix2 e k)) + b (ix1 e) := by
  have hb : broadcastInDim Cert.ReferenceIdeal.S1024x64 ![0, 1] Cert.ReferenceIdeal.Gen.bcast_S1x64_S1024x64_0_1
      (broadcastInDim Cert.ReferenceIdeal.S1x64 ![1] Cert.ReferenceIdeal.Gen.bcast_S64_S1x64_1 b) (ix2 j e) = b (ix1 e) := by
    rw [broadcastInDim_apply _ _ _ (ix2 j e) (ix2 0 e) (fun a => by
        match a with
        | ⟨0, _⟩ => rfl
        | ⟨1, _⟩ => rfl)]
    exact broadcastInDim_apply _ _ _ (ix2 0 e) (ix1 e) (fun a => by
      match a with
      | ⟨0, _⟩ => rfl)
  unfold refLogits
  refine (congrArg₂ (· + ·) (StackMember.dotGeneral_plain_apply none _ _ j e) hb).trans ?_
  refine congrArg (· + b (ix1 e)) (Finset.sum_congr rfl fun k _ => congrArg _ ?_)
  exact transpose_apply _ _ _ (ix2 k e) (ix2 e k) (fun b => by
    match b with
    | ⟨0, _⟩ => rfl
    | ⟨1, _⟩ => rfl)

/-- The terms of all the pixels, summed: the reference's sum. -/
theorem sum_term (x : FVec Ideal S1024x3x224x224 .f32) (w : FVec Ideal S64x150528 .f32) (e : Fin 64) (j : Fin 1024) :
    ∑ k ∈ Finset.range 150528, term x w e j k = ∑ k : Fin 150528, pixels x (ix2 j k) * w (ix2 e k) :=
  (Finset.sum_range (fun k => term x w e j k)).trans (Finset.sum_congr rfl fun k _ => by
    unfold term
    rw [dif_pos k.isLt]
    exact mul_comm _ _)

/-- After the last point the accumulator holds the reference's logits. -/
theorem logits_eq (c : Dev nD) (n : ℕ) (h : n < cfg0.N) (hn : 1536 * (n + 1) = 150528) (e : Fin 64) (j : Fin 1024) :
    accum m c n h (ix2 e j)
      = refLogits (F := Ideal) (m ((c.tc : Thread nD τ).loc main_arg0)) (m ((c.tc : Thread nD τ).loc main_arg1))
          (m ((c.tc : Thread nD τ).loc main_arg2)) (ix2 j e) := by
  refine (accum_apply m c e j n h).trans (Eq.trans ?_ (refLogits_apply _ _ _ j e).symm)
  rw [hn, sum_term]

end Cert.Router

end
-- ==== Proof.Array.lean ====
/- What the kernel's result buffer holds after the run: the one write-back of the last point, flattened; at the ideal
   values, the reference's arg-max of the reference's logits. -/
module

public import proofs.«01_k».proof.Proof.Choice
public import proofs.«01_k».proof.Proof.Logits

@[expose] public section

set_option maxRecDepth 16384

noncomputable section

namespace Cert.Router

open Idealize.ShloMosaic Idealize.ShloMosaic.TcCoe Idealize.SL.Sem
open Idealize.ShloMosaic.Pipeline (Dat)
open Cert.KernelIdeal Cert.KernelIdeal.Gen

variable {F : FTy → Type} [FloatOps F]
variable (m : (ℓ : Loc nD τ sig) → Buf (Elt F) ℓ) (ρ : Dev nD → PrngReg)

/-- The grid has a point 97. -/
theorem last_lt : 97 < cfg0.N := by rw [show cfg0.N = 98 from N_0]; decide

/-- The last point. -/
abbrev lastPoint : Fin cfg0.N := ⟨97, last_lt⟩

/-- The chosen experts, as the last point stores them. -/
abbrev chosen (c : Dev nD) : Buf (Elt F) ((c.tc : Thread nD τ).loc main_v3) := k0_pay4 (accum m c 97 last_lt)

/-- The only write-back, at the last point, writes the chosen experts: its block is the whole result array. -/
theorem flushed_chosen (c : Dev nD) (t : Fin cfg0.N) (hf : (cfg0.win 3).flush t = true) :
    (dats m 0 c).flushed 3 t = ((cfg0.win 3).blk t).view.read (Elt F) (chosen m c) := by
  have hN : cfg0.N = 98 := N_0
  have hlast : t.val = 97 := by have := (flush0_3 t).mp hf; have := t.isLt; omega
  obtain rfl : t = lastPoint := Fin.ext hlast
  show (cfg0.win 3).cut (grid0.coords lastPoint) ((dats m 0 c).after 3 lastPoint) = _
  rw [after0_3, chosen_eq m c 96 last_lt rfl]
  have hz : (fun a => win0_3.index lastPoint a * main_v3.ty.shape.size a) = fun _ => 0 := funext fun a => by
    match a with
    | ⟨0, _⟩ => rfl
    | ⟨1, _⟩ => rfl
  exact (Memref.read_access_unit_zero (Elt F) main_v3 hz (fun a => by rw [congrFun hz a]; simp) (chosen m c)).symm

/-- So the result array ends holding the chosen experts. -/
theorem arr_chosen (c : Dev nD) : (dats m 0 c).arrAt 3 cfg0.N = chosen m c :=
  (dats m 0 c).arrAt_eq_of_cover 3 (chosen m c) (flushed_chosen m c) fun i =>
    ⟨lastPoint, (flush0_3 lastPoint).mpr rfl, by
      show i ∈ ((View.whole main_v3).slice (win0_3.rect lastPoint)).set
      rw [View.set_slice_whole, Rect.mem_set_unit]
      intro a
      have h0 : (i 0 : Nat) < 1 := (i 0).isLt
      have h1 : (i 1 : Nat) < 1024 := (i 1).isLt
      match a with
      | ⟨0, _⟩ => show 0 * 1 ≤ (i 0 : Nat) ∧ (i 0 : Nat) < 0 * 1 + 1; omega
      | ⟨1, _⟩ => show 0 * 1024 ≤ (i 1 : Nat) ∧ (i 1 : Nat) < 0 * 1024 + 1024; omega⟩

/-- From any memory with zero counters every run of the kernel ends, its result the chosen experts flattened and its
    three arguments as they were. -/
theorem kernelRun : θ_run defs (onTc (τ := τ) (main (F := F))) ⟨m, fun _ => 0, ρ⟩ fun r => ∀ c : Dev nD,
      r.2.mem ((c.tc : Thread nD τ).loc main_v4) = shapeCast S1024 (chosen m c) shapeCasts_S1x1024_S1024
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h.1 c).trans (by
      have e := Pipeline.withArrays_arr spec0 winFacts0.arr_inj c (V0 m c) (fun w => (dats m 0 c).arrAt w cfg0.N) 3
      unfold Pipeline.afterTail₀
      show StableHlo.after hostOps1 (Pipeline.withArrays spec0 c (V0 m c) fun w => (dats m 0 c).arrAt w cfg0.N) main_v4 = _
      after_results
      exact congrArg (shapeCast S1024 · shapeCasts_S1x1024_S1024) (e.trans (arr_chosen m c))), h.2 c⟩)
    (θ_run_and ((θ_run defs _ _).mono (fun _ h c => (h c).2 main_v4 (Pipeline.mem_restRefs_of main_v4 (by decide) (by decide)))
      (run_main m ρ)) (unchanged m ρ))

end Cert.Router

end
-- ==== Proof.lean ====
module

public import proofs.«01_k».proof.Defs
public import proofs.«01_k».proof.Proof.Gen.Kernel.Frame
public import proofs.«01_k».proof.Proof.Gen.KernelIdeal.Frame
public import proofs.«01_k».proof.Proof.Gen.ReferenceIdeal
public import proofs.«01_k».proof.Proof.Array

@[expose] public section

noncomputable section

namespace Cert.Proof

open Idealize.ShloMosaic Idealize.ShloMosaic.TcCoe Idealize.SL.Sem

/-- From memories that agree on the images, the weights and the bias, the kernel and the reference end with the same
    chosen experts, each with its arguments as they were. -/
theorem algebraic : Cert.algebraic_KernelIdeal_ReferenceIdeal := by
  intro m g m' g' _ hagree
  refine ⟨fun c => shapeCast Cert.KernelIdeal.S1024 (Cert.Router.chosen m c) Cert.KernelIdeal.Gen.shapeCasts_S1x1024_S1024,
    Cert.Router.kernelRun m g, (θ_run _ _ _).mono (fun _ h c => ⟨?_, (h c).2⟩) (Cert.Router.refRun m' g')⟩
  refine (h c).1.trans ?_
  rw [(hagree c).1, (hagree c).2.1, (hagree c).2.2]
  exact (Cert.Router.choice_eq _ _ fun e j => Cert.Router.logits_eq m c 97 Cert.Router.last_lt (by norm_num) e j).symm

/-- Every claim of the certificate. -/
theorem claim : Cert.Claim :=
  ⟨Cert.Kernel.Gen.facts, Cert.KernelIdeal.Gen.facts, Cert.ReferenceIdeal.Gen.facts,
    fun m ρ _ => Cert.Kernel.Gen.frame m ρ,
    fun m ρ _ => Cert.KernelIdeal.Gen.frame m ρ,
    Cert.Router.refFrame,
    trivial,
    algebraic⟩

end Cert.Proof

end
